-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_arguments [hPre_real_arguments : Cert.Pre_real_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_real_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_real_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_real_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_real_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_real_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_real_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_real_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_arguments [hPre_real_arguments : Cert.Pre_real_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_real_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_real_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_real_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_real_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_real_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_real_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_real_arguments [hKernelIdeal : Cert.KernelIdeal.Facts] [hPre_real_arguments : Cert.Pre_real_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_real_arguments [hReferenceIdeal : Cert.ReferenceIdeal.Facts] [hPre_real_arguments : Cert.Pre_real_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_real_arguments [hKernelIdeal : Cert.KernelIdeal.Facts] [hReferenceIdeal : Cert.ReferenceIdeal.Facts] [hPre_real_arguments : Cert.Pre_real_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_KernelIdeal_ReferenceIdeal_on_all_weights [hKernelIdeal : Cert.KernelIdeal.Facts] [hReferenceIdeal : Cert.ReferenceIdeal.Facts] [hOn_all_weights : Cert.On_all_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 8]⟩ : Shape).Idx, (Cert.On_all_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v14_0) i = v0 c i)
          ∧ (∀ i : (⟨2, ![4096, 8]⟩ : Shape).Idx, (Cert.On_all_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v14_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 8]⟩ : Shape).Idx, (Cert.On_all_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v30) i = v0 c i)
          ∧ (∀ i : (⟨2, ![4096, 8]⟩ : Shape).Idx, (Cert.On_all_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_indices) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_real_arguments : Cert.Pre_real_arguments.Facts) (hOn_all_weights : Cert.On_all_weights.Facts),
    quiescent_Kernel (hKernel := hKernel)
    ∧ quiescent_KernelIdeal (hKernelIdeal := hKernelIdeal)
    ∧ quiescent_KernelIdeal_pre_real_arguments (hKernelIdeal := hKernelIdeal) (hPre_real_arguments := hPre_real_arguments)
    ∧ quiescent_ReferenceIdeal (hReferenceIdeal := hReferenceIdeal)
    ∧ quiescent_ReferenceIdeal_pre_real_arguments (hReferenceIdeal := hReferenceIdeal) (hPre_real_arguments := hPre_real_arguments)
    ∧ preserves_Kernel_KernelIdeal
    ∧ algebraic_KernelIdeal_ReferenceIdeal_pre_real_arguments (hKernelIdeal := hKernelIdeal) (hReferenceIdeal := hReferenceIdeal) (hPre_real_arguments := hPre_real_arguments)
    ∧ algebraic_KernelIdeal_ReferenceIdeal_on_all_weights (hKernelIdeal := hKernelIdeal) (hReferenceIdeal := hReferenceIdeal) (hOn_all_weights := hOn_all_weights)
-- ==== On_all_weights.lean ====
abbrev S4096x2048x4 : Shape := ⟨3, ![4096, 2048, 4]⟩
abbrev S4096x2048 : Shape := ⟨2, ![4096, 2048]⟩
abbrev S4096 : Shape := ⟨1, ![4096]⟩
abbrev S2048x4096 : Shape := ⟨2, ![2048, 4096]⟩
abbrev S2048 : Shape := ⟨1, ![2048]⟩
abbrev S64x2048 : Shape := ⟨2, ![64, 2048]⟩
abbrev S64 : Shape := ⟨1, ![64]⟩
abbrev S_ : Shape := ⟨0, ![]⟩
abbrev S4096x8 : Shape := ⟨2, ![4096, 8]⟩

class Facts : Prop where
  bcast_S_S4096x8 : S_.BroadcastsInDim S4096x8 (![] : Fin 0 → Fin S4096x8.rank)

variable [Facts]

def fn {F : FTy → Type} [FloatOps F] (main_arg0 : FVec F S4096x2048x4 .f32) (main_arg1 : FVec F S4096x2048 .f32) (main_arg2 : FVec F S4096 .f32) (main_arg3 : FVec F S2048x4096 .f32) (main_arg4 : FVec F S2048 .f32) (main_arg5 : FVec F S64x2048 .f32) (main_arg6 : FVec F S64 .f32) : IVec S4096x8 1 × IVec S4096x8 1 :=
  let main_c : IVec S_ 1 := constantI S_ 1 1#1
  let main_v0 : IVec S4096x8 1 := broadcastInDim S4096x8 ![] bcast_S_S4096x8 main_c
  let main_c_0 : IVec S_ 1 := constantI S_ 1 0#1
  let main_v1 : IVec S4096x8 1 := broadcastInDim S4096x8 ![] bcast_S_S4096x8 main_c_0
  (main_v0, main_v1)
-- ==== Pre_real_arguments.lean ====
abbrev S4096x2048x4 : Shape := ⟨3, ![4096, 2048, 4]⟩
abbrev S4096x2048 : Shape := ⟨2, ![4096, 2048]⟩
abbrev S4096 : Shape := ⟨1, ![4096]⟩
abbrev S2048x4096 : Shape := ⟨2, ![2048, 4096]⟩
abbrev S2048 : Shape := ⟨1, ![2048]⟩
abbrev S64x2048 : Shape := ⟨2, ![64, 2048]⟩
abbrev S64 : Shape := ⟨1, ![64]⟩
abbrev S_ : Shape := ⟨0, ![]⟩

class Facts : Prop where
  bcast_S_S4096x2048x4 : S_.BroadcastsInDim S4096x2048x4 (![] : Fin 0 → Fin S4096x2048x4.rank)
  bcast_S_S4096x2048 : S_.BroadcastsInDim S4096x2048 (![] : Fin 0 → Fin S4096x2048.rank)
  bcast_S_S4096 : S_.BroadcastsInDim S4096 (![] : Fin 0 → Fin S4096.rank)
  bcast_S_S2048x4096 : S_.BroadcastsInDim S2048x4096 (![] : Fin 0 → Fin S2048x4096.rank)
  bcast_S_S2048 : S_.BroadcastsInDim S2048 (![] : Fin 0 → Fin S2048.rank)
  bcast_S_S64x2048 : S_.BroadcastsInDim S64x2048 (![] : Fin 0 → Fin S64x2048.rank)
  bcast_S_S64 : S_.BroadcastsInDim S64 (![] : Fin 0 → Fin S64.rank)

variable [Facts]

def fn_part1 {F : FTy → Type} [FloatOps F] (main_arg6 : FVec F S64 .f32) (main_v2 : IVec S4096x2048x4 1) (main_v5 : IVec S4096x2048 1) (main_v8 : IVec S4096 1) (main_v11 : IVec S2048x4096 1) (main_v14 : IVec S2048 1) (main_v17 : IVec S64x2048 1) : IVec S4096x2048x4 1 × IVec S4096x2048 1 × IVec S4096 1 × IVec S2048x4096 1 × IVec S2048 1 × IVec S64x2048 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S4096x2048x4 .f32) (main_arg1 : FVec F S4096x2048 .f32) (main_arg2 : FVec F S4096 .f32) (main_arg3 : FVec F S2048x4096 .f32) (main_arg4 : FVec F S2048 .f32) (main_arg5 : FVec F S64x2048 .f32) (main_arg6 : FVec F S64 .f32) : IVec S4096x2048x4 1 × IVec S4096x2048 1 × IVec S4096 1 × IVec S2048x4096 1 × IVec S2048 1 × IVec S64x2048 1 × IVec S64 1 :=
  let main_v0 : FVec F S4096x2048x4 .f32 := Host.absf main_arg0
  let main_cst : FVec F S_ .f32 := constant S_ .f32 0x7F800000#32
  let main_v1 : FVec F S4096x2048x4 .f32 := broadcastInDim S4096x2048x4 ![] bcast_S_S4096x2048x4 main_cst
  let main_v2 : IVec S4096x2048x4 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  let main_v9 : FVec F S2048x4096 .f32 := Host.absf main_arg3
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S64x2048 .f32 := Host.absf main_arg5
  let main_cst_4 : FVec F S_ .f32 := constant S_ .f32 0x7F800000#32
  let main_v16 : FVec F S64x2048 .f32 := broadcastInDim S64x2048 ![] bcast_S_S64x2048 main_cst_4
  let main_v17 : IVec S64x2048 1 := cmpf .olt main_v15 main_v16
  fn_part1 (F := F) main_arg6 main_v2 main_v5 main_v8 main_v11 main_v14 main_v17
-- ==== Kernel.lean ====
abbrev S4096x2048x4 : Shape := ⟨3, ![4096, 2048, 4]⟩
abbrev S4096x2048 : Shape := ⟨2, ![4096, 2048]⟩
abbrev S4096 : Shape := ⟨1, ![4096]⟩
abbrev S2048x4096 : Shape := ⟨2, ![2048, 4096]⟩
abbrev S2048 : Shape := ⟨1, ![2048]⟩
abbrev S64x2048 : Shape := ⟨2, ![64, 2048]⟩
abbrev S64 : Shape := ⟨1, ![64]⟩
abbrev S4096x2048x1 : Shape := ⟨3, ![4096, 2048, 1]⟩
abbrev S1x4096 : Shape := ⟨2, ![1, 4096]⟩
abbrev S1x2048 : Shape := ⟨2, ![1, 2048]⟩
abbrev S1x64 : Shape := ⟨2, ![1, 64]⟩
abbrev S4096x8 : Shape := ⟨2, ![4096, 8]⟩
abbrev S256x2048 : Shape := ⟨2, ![256, 2048]⟩
abbrev S256x8 : Shape := ⟨2, ![256, 8]⟩
abbrev S256x4096 : Shape := ⟨2, ![256, 4096]⟩
abbrev S256x64 : Shape := ⟨2, ![256, 64]⟩
abbrev S256 : Shape := ⟨1, ![256]⟩
abbrev S256x1 : Shape := ⟨2, ![256, 1]⟩

abbrev nBuf : Space → Nat
  | .hbm => 23
  | .vmem => 18
  | .smem => 0
  | _ => 0

abbrev bufTy : (tb : Table) → Fin (tcTables nBuf tb) → BufTy
  | .hbm, ⟨0, _⟩ => ⟨S4096x2048x4, .f32⟩
  | .hbm, ⟨1, _⟩ => ⟨S4096x2048, .f32⟩
  | .hbm, ⟨2, _⟩ => ⟨S4096, .f32⟩
  | .hbm, ⟨3, _⟩ => ⟨S2048x4096, .f32⟩
  | .hbm, ⟨4, _⟩ => ⟨S2048, .f32⟩
  | .hbm, ⟨5, _⟩ => ⟨S64x2048, .f32⟩
  | .hbm, ⟨6, _⟩ => ⟨S64, .f32⟩
  | .hbm, ⟨7, _⟩ => ⟨S4096x2048x1, .f32⟩
  | .hbm, ⟨8, _⟩ => ⟨S4096x2048, .f32⟩
  | .hbm, ⟨9, _⟩ => ⟨S4096x2048x1, .f32⟩
  | .hbm, ⟨10, _⟩ => ⟨S4096x2048, .f32⟩
  | .hbm, ⟨11, _⟩ => ⟨S4096x2048x1, .f32⟩
  | .hbm, ⟨12, _⟩ => ⟨S4096x2048, .f32⟩
  | .hbm, ⟨13, _⟩ => ⟨S4096x2048x1, .f32⟩
  | .hbm, ⟨14, _⟩ => ⟨S4096x2048, .f32⟩
  | .hbm, ⟨15, _⟩ => ⟨S4096x2048, .bf16⟩
  | .hbm, ⟨16, _⟩ => ⟨S2048x4096, .bf16⟩
  | .hbm, ⟨17, _⟩ => ⟨S64x2048, .bf16⟩
  | .hbm, ⟨18, _⟩ => ⟨S1x4096, .f32⟩
  | .hbm, ⟨19, _⟩ => ⟨S1x2048, .f32⟩
  | .hbm, ⟨20, _⟩ => ⟨S1x64, .f32⟩
  | .hbm, ⟨21, _⟩ => ⟨S4096x8, .f32⟩
  | .hbm, ⟨22, _⟩ => ⟨S4096x8, .i32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S4096x2048, .bf16⟩
  | .local _ .vmem, ⟨9, _⟩ => ⟨S1x4096, .f32⟩
  | .local _ .vmem, ⟨10, _⟩ => ⟨S2048x4096, .bf16⟩
  | .local _ .vmem, ⟨11, _⟩ => ⟨S1x2048, .f32⟩
  | .local _ .vmem, ⟨12, _⟩ => ⟨S64x2048, .bf16⟩
  | .local _ .vmem, ⟨13, _⟩ => ⟨S1x64, .f32⟩
  | .local _ .vmem, ⟨14, _⟩ => ⟨S256x8, .f32⟩
  | .local _ .vmem, ⟨15, _⟩ => ⟨S256x8, .f32⟩
  | .local _ .vmem, ⟨16, _⟩ => ⟨S256x8, .i32⟩
  | .local _ .vmem, ⟨17, _⟩ => ⟨S256x8, .i32⟩
  | _, _ => ⟨S4096x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x2048x4 : Shape := ⟨3, ![4096, 2048, 4]⟩
abbrev S4096x2048 : Shape := ⟨2, ![4096, 2048]⟩
abbrev S4096 : Shape := ⟨1, ![4096]⟩
abbrev S2048x4096 : Shape := ⟨2, ![2048, 4096]⟩
abbrev S2048 : Shape := ⟨1, ![2048]⟩
abbrev S64x2048 : Shape := ⟨2, ![64, 2048]⟩
abbrev S64 : Shape := ⟨1, ![64]⟩
abbrev S_ : Shape := ⟨0, ![]⟩
abbrev S4096x4096 : Shape := ⟨2, ![4096, 4096]⟩
abbrev S1x4096 : Shape := ⟨2, ![1, 4096]⟩
abbrev S1x2048 : Shape := ⟨2, ![1, 2048]⟩
abbrev S2048x64 : Shape := ⟨2, ![2048, 64]⟩
abbrev S4096x64 : Shape := ⟨2, ![4096, 64]⟩
abbrev S1x64 : Shape := ⟨2, ![1, 64]⟩
abbrev S4096x8 : Shape := ⟨2, ![4096, 8]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048x4, .f32⟩
  | .hbm, ⟨1, _⟩ => ⟨S4096x2048, .f32⟩
  | .hbm, ⟨2, _⟩ => ⟨S4096, .f32⟩
  | .hbm, ⟨3, _⟩ => ⟨S2048x4096, .f32⟩
  | .hbm, ⟨4, _⟩ => ⟨S2048, .f32⟩
  | .hbm, ⟨5, _⟩ => ⟨S64x2048, .f32⟩
  | .hbm, ⟨6, _⟩ => ⟨S64, .f32⟩
  | .hbm, ⟨7, _⟩ => ⟨S_, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S2048x4096, .f32⟩
  | .hbm, ⟨13, _⟩ => ⟨S4096x4096, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S2048x64, .f32⟩
  | .hbm, ⟨29, _⟩ => ⟨S4096x64, .f32⟩
  | .hbm, ⟨30, _⟩ => ⟨S1x64, .f32⟩
  | .hbm, ⟨31, _⟩ => ⟨S4096x64, .f32⟩
  | .hbm, ⟨32, _⟩ => ⟨S4096x64, .f32⟩
  | .hbm, ⟨33, _⟩ => ⟨S4096x8, .f32⟩
  | .hbm, ⟨34, _⟩ => ⟨S4096x8, .i32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x8, .f32⟩
  | .hbm, ⟨48, _⟩ => ⟨S4096x8, .f32⟩
  | _, _ => ⟨S4096x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_values : Ref sig .tc := ⟨.hbm, 33, rfl⟩
abbrev main_indices : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Proof.Rounds.lean ====
/-
  Picking the largest entries of a row, one round at a time.

  A row is a function `z : Fin n → EReal`. One round takes the largest value, the least position that holds it, and
  replaces the entry at that position by the bottom value. This module proves that the values taken by the rounds are the
  row's entries in decreasing order, ties by position, and that the positions taken are the positions of that order as
  long as the value taken is not the bottom value.
-/
module

public import Mathlib.Data.EReal.Basic
public import Mathlib.Data.Finset.Lattice.Fold
public import Mathlib.Data.Fintype.EquivFin

@[expose] public section

noncomputable section

namespace Cert.Proof.Rounds

variable {n : ℕ}

/-- The largest entry of a row. -/
def top (z : Fin n → EReal) : EReal := Finset.univ.sup z

/-- The least position holding the largest entry, as a number; a position that does not hold it counts as `n`. -/
def pos (z : Fin n → EReal) : EReal := Finset.univ.inf fun k => if z k = top z then ((k : ℕ) : EReal) else ((n : ℕ) : EReal)

/-- The row with the entry at that position replaced by the bottom value. -/
def next (z : Fin n → EReal) : Fin n → EReal := fun k => if ((k : ℕ) : EReal) = pos z then ⊥ else z k

/-- The row after `r` rounds. -/
def after (z : Fin n → EReal) : ℕ → Fin n → EReal
  | 0 => z
  | r + 1 => next (after z r)

/-- `π` lists the positions of the row by decreasing entry, ties by position. -/
structure Sorts (π : Fin n → Fin n) (z : Fin n → EReal) : Prop where
  inj : Function.Injective π
  ord : ∀ i j, i < j → z (π j) < z (π i) ∨ (z (π i) = z (π j) ∧ π i < π j)

/-- Natural numbers embed in the extended reals without collisions. -/
theorem cast_inj {a b : ℕ} : ((a : ℕ) : EReal) = ((b : ℕ) : EReal) ↔ a = b := by
  rw [EReal.natCast_eq_iff]

/-- If position `i` holds the largest entry and no earlier position does, it is the position found. -/
theorem pos_eq (z : Fin n → EReal) (i : Fin n) (hi : z i = top z) (hl : ∀ k, z k = top z → i ≤ k) : pos z = ((i : ℕ) : EReal) := by
  apply le_antisymm
  · refine (Finset.inf_le (Finset.mem_univ i)).trans ?_
    rw [if_pos hi]
  · refine Finset.le_inf fun k _ => ?_
    split
    · rename_i h
      exact EReal.natCast_le_iff.mpr (hl k h)
    · exact EReal.natCast_le_iff.mpr i.isLt.le

/-- If every entry is the bottom value, a round leaves the row as it was. -/
theorem next_bot (z : Fin n → EReal) (h : ∀ k, z k = ⊥) (k : Fin n) : next z k = ⊥ := by
  unfold next; split
  · rfl
  · exact h k

variable {π : Fin n → Fin n} {z : Fin n → EReal}

/-- Later entries of the order are no larger. -/
theorem Sorts.le (h : Sorts π z) {i j : Fin n} (hij : i ≤ j) : z (π j) ≤ z (π i) := by
  rcases hij.lt_or_eq with hlt | rfl
  · rcases h.ord i j hlt with h1 | h1
    · exact h1.le
    · exact h1.1.ge
  · exact le_rfl

/-- Every position appears in the order. -/
theorem Sorts.surj (h : Sorts π z) : Function.Surjective π := Finite.surjective_of_injective h.inj

/-- After `r` rounds: either exactly the first `r` positions of the order have been replaced by the bottom value, or
    every entry is the bottom value and so were all entries from place `r` on. -/
theorem state (h : Sorts π z) (r : ℕ) (hr : r ≤ n) :
    (∀ s : Fin n, after z r (π s) = if (s : ℕ) < r then ⊥ else z (π s))
    ∨ ((∀ k, after z r k = ⊥) ∧ ∀ s : Fin n, r ≤ (s : ℕ) → z (π s) = ⊥) := by
  induction r with
  | zero => exact Or.inl fun s => by simp [after]
  | succ r ih =>
    have hrn : r < n := hr
    rcases ih hrn.le with hA | ⟨hB, hz⟩
    · have htop : top (after z r) = z (π ⟨r, hrn⟩) := by
        apply le_antisymm
        · refine Finset.sup_le fun k _ => ?_
          obtain ⟨s, rfl⟩ := h.surj k
          rw [hA]
          split
          · exact bot_le
          · rename_i hs
            exact h.le (Fin.mk_le_of_le_val (not_lt.mp hs))
        · have := hA ⟨r, hrn⟩
          rw [if_neg (lt_irrefl _)] at this
          rw [← this]
          exact Finset.le_sup (f := after z r) (Finset.mem_univ _)
      by_cases hb : z (π ⟨r, hrn⟩) = ⊥
      · refine Or.inr ⟨next_bot _ fun k => ?_, fun s hs => ?_⟩
        · have : after z r k ≤ top (after z r) := Finset.le_sup (f := after z r) (Finset.mem_univ _)
          rw [htop, hb] at this
          exact le_bot_iff.mp this
        · have := h.le (i := ⟨r, hrn⟩) (j := s) (Fin.mk_le_of_le_val (by omega))
          rw [hb] at this
          exact le_bot_iff.mp this
      · have hpos : pos (after z r) = ((π ⟨r, hrn⟩ : ℕ) : EReal) := by
          refine pos_eq _ _ ?_ fun k hk => ?_
          · rw [htop, hA, if_neg (lt_irrefl _)]
          · obtain ⟨s, rfl⟩ := h.surj k
            rw [htop, hA] at hk
            split at hk
            · exact absurd hk.symm hb
            · rename_i hs
              rcases (Fin.mk_le_of_le_val (not_lt.mp hs) : (⟨r, hrn⟩ : Fin n) ≤ s).lt_or_eq with hlt | heq
              · rcases h.ord _ _ hlt with h1 | h1
                · exact absurd hk h1.ne
                · exact h1.2.le
              · rw [heq]
        refine Or.inl fun s => ?_
        show next (after z r) (π s) = _
        unfold next
        rw [hpos]
        by_cases hs : (s : ℕ) = r
        · have : s = ⟨r, hrn⟩ := Fin.ext hs
          rw [this, if_pos rfl, if_pos (Nat.lt_succ_self r)]
        · have hne : ¬ (((π s : ℕ) : EReal) = ((π ⟨r, hrn⟩ : ℕ) : EReal)) := fun e =>
            hs (congrArg Fin.val (h.inj (Fin.ext (cast_inj.mp e))))
          rw [if_neg hne, hA]
          by_cases hlt : (s : ℕ) < r
          · rw [if_pos hlt, if_pos (by omega)]
          · rw [if_neg hlt, if_neg (by omega)]
    · exact Or.inr ⟨next_bot _ hB, fun s hs => hz s (by omega)⟩

/-- The value taken in round `r` is the order's entry at place `r`. -/
theorem top_after (h : Sorts π z) (r : Fin n) : top (after z r) = z (π r) := by
  rcases state h r r.isLt.le with hA | ⟨hB, hz⟩
  · apply le_antisymm
    · refine Finset.sup_le fun k _ => ?_
      obtain ⟨s, rfl⟩ := h.surj k
      rw [hA]
      split
      · exact bot_le
      · rename_i hs
        exact h.le (not_lt.mp hs)
    · have := hA r
      rw [if_neg (lt_irrefl _)] at this
      rw [← this]
      exact Finset.le_sup (f := after z r) (Finset.mem_univ _)
  · rw [hz r le_rfl]
    exact le_bot_iff.mp (Finset.sup_le fun k _ => (hB k).le)

/-- If that entry is not the bottom value, the position taken in round `r` is the order's position at place `r`. -/
theorem pos_after (h : Sorts π z) (r : Fin n) (hb : z (π r) ≠ ⊥) : pos (after z r) = ((π r : ℕ) : EReal) := by
  rcases state h r r.isLt.le with hA | ⟨_, hz⟩
  · refine pos_eq _ _ ?_ fun k hk => ?_
    · rw [top_after h, hA, if_neg (lt_irrefl _)]
    · obtain ⟨s, rfl⟩ := h.surj k
      rw [top_after h, hA] at hk
      split at hk
      · exact absurd hk.symm hb
      · rename_i hs
        rcases (not_lt.mp hs : r ≤ s).lt_or_eq with hlt | heq
        · rcases h.ord _ _ hlt with h1 | h1
          · exact absurd hk h1.ne
          · exact h1.2.le
        · rw [heq]
  · exact absurd (hz r le_rfl) hb

end Cert.Proof.Rounds

end
-- ==== Proof.Order.lean ====
/-
  The stable sort of a row's positions by decreasing entry.

  The host's selection of the largest entries sorts the positions of a row stably by "greater". This module proves that
  the resulting list of positions is ordered by decreasing entry, and that equal entries stay in the order of their
  positions.
-/
module

public import Idealize.ShloMosaic.Lib.SortFacts
public import proofs.«01_k».proof.Proof.Rounds

@[expose] public section

noncomputable section

namespace Cert.Proof.Order

open Idealize.ShloMosaic Cert.Proof.Rounds

variable {n : ℕ}

/-- "The entry at `a` is greater than the entry at `b`." -/
def greater (z : Fin n → EReal) (a b : Fin n) : Bool := decide (z b < z a)

/-- "The entry at `a` is greater than the entry at `b`, or they are equal and `a` comes first." -/
def ahead (z : Fin n → EReal) (a b : Fin n) : Bool := decide (z b < z a ∨ (z a = z b ∧ a < b))

/-- On a list of positions in increasing order the two relations sort alike: when a position is inserted, it precedes
    every position already placed. -/
theorem sort_alike (z : Fin n → EReal) (l : List (Fin n)) (hl : l.Pairwise (· < ·)) :
    stableSort (greater z) l = stableSort (ahead z) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold greater ahead
    rw [decide_eq_decide]
    exact ⟨Or.inl, fun h => h.resolve_right fun h' => lt_asymm hab h'.2⟩

/-- So they give the same order of all the positions. -/
theorem from_alike (z : Fin n → EReal) : sortedFrom (greater z) = sortedFrom (ahead z) := by
  have h : sortPositions n (greater z) = sortPositions n (ahead z) := sort_alike z _ (List.pairwise_lt_finRange n)
  funext k
  unfold sortedFrom
  rw [List.get_of_eq h]
  rfl

/-- The stable sort by "greater" lists the positions by decreasing entry, ties by position. -/
theorem sorts (z : Fin n → EReal) : Sorts (sortedFrom (greater z)) z where
  inj := sortedFrom_injective _
  ord i j hij := by
    have hne : sortedFrom (ahead z) i ≠ sortedFrom (ahead z) j := fun e => hij.ne (sortedFrom_injective _ e)
    have h := sortedFrom_noInversion (ahead z) (ahead z)
      (fun a b hab => by
        unfold ahead at hab ⊢
        rw [decide_eq_true_eq] at hab
        rw [decide_eq_false_iff_not]
        rintro (h | h)
        · rcases hab with h' | h'
          · exact lt_asymm h h'
          · exact h.ne h'.1
        · rcases hab with h' | h'
          · exact h'.ne h.1
          · exact lt_asymm h.2 h'.2)
      (fun _ _ hab => hab)
      (fun a b c hab hbc => by
        unfold ahead at hab hbc ⊢
        rw [decide_eq_false_iff_not] at hab hbc ⊢
        rintro (h | h)
        · have h1 : z a ≤ z b := not_lt.mp fun h' => hab (Or.inl h')
          have h2 : z b ≤ z c := not_lt.mp fun h' => hbc (Or.inl h')
          exact absurd (h1.trans h2) (not_le.mpr h)
        · have h1 : z a ≤ z b := not_lt.mp fun h' => hab (Or.inl h')
          have h2 : z b ≤ z c := not_lt.mp fun h' => hbc (Or.inl h')
          have e1 : z a = z b := le_antisymm h1 (h.1 ▸ h2)
          have e2 : z b = z c := e1 ▸ h.1
          have p1 : b ≤ a := not_lt.mp fun h' => hab (Or.inr ⟨e1, h'⟩)
          have p2 : c ≤ b := not_lt.mp fun h' => hbc (Or.inr ⟨e2, h'⟩)
          exact absurd (p2.trans p1) (not_le.mpr h.2))
      i j hij
    rw [from_alike]
    unfold ahead at h
    rw [decide_eq_false_iff_not] at h
    have hle : z (sortedFrom (ahead z) j) ≤ z (sortedFrom (ahead z) i) := not_lt.mp fun h' => h (Or.inl h')
    rcases hle.lt_or_eq with hlt | heq
    · exact Or.inl hlt
    · exact Or.inr ⟨heq.symm, lt_of_le_of_ne (not_lt.mp fun h' => h (Or.inr ⟨heq, h'⟩)) hne⟩

end Cert.Proof.Order

end
-- ==== Proof.Spec.lean ====
/-
  What one row of the program computes, as plain mathematics on extended reals.

  A row is pooled (the mean of four entries), sent through three affine layers, the first two followed by a cut at zero,
  and the largest eight of the resulting 64 scores are turned into weights that sum their exponentials.
-/
module

public import Idealize.ShloMosaic.PureOps.Ideal
public import proofs.«01_k».proof.Proof.Order

@[expose] public section

noncomputable section

namespace Cert.Proof.Spec

open Idealize.ShloMosaic

/-- One affine layer: output `j` is the inner product of row `j` of `W` with the input, plus `b j`. -/
def affine {n k : ℕ} (W : Fin k → Fin n → EReal) (b : Fin k → EReal) (v : Fin n → EReal) : Fin k → EReal :=
  fun j => (∑ i, v i * W j i) + b j

/-- The cut at zero. -/
def relu {n : ℕ} (v : Fin n → EReal) : Fin n → EReal := fun j => max (v j) 0

/-- The mean of four entries. -/
def mean (x : Fin 4 → EReal) : EReal := Ideal.div (∑ l, x l) ((4 : ℝ) : EReal)

/-- The scores of a pooled row. -/
def scores (W1 : Fin 4096 → Fin 2048 → EReal) (b1 : Fin 4096 → EReal) (W2 : Fin 2048 → Fin 4096 → EReal) (b2 : Fin 2048 → EReal)
    (W3 : Fin 64 → Fin 2048 → EReal) (b3 : Fin 64 → EReal) (p : Fin 2048 → EReal) : Fin 64 → EReal :=
  affine W3 b3 (relu (affine W2 b2 (relu (affine W1 b1 p))))

/-- The place of the `r`-th largest score, ties by place. -/
def place (z : Fin 64 → EReal) (r : Fin 8) : Fin 64 := sortedFrom (Order.greater z) (r.castLE (by decide))

/-- The exponentials of eight values less the first, divided by their sum. -/
def soft (w : Fin 8 → EReal) (r : Fin 8) : EReal := Ideal.div (Ideal.exp (w r - w 0)) (∑ s, Ideal.exp (w s - w 0))

/-- The weights of a row of scores: `soft` of its eight largest. -/
def weight (z : Fin 64 → EReal) (r : Fin 8) : EReal := soft (fun s => z (place z s)) r

/-- The positions of a row of scores' eight largest, as words. -/
def index (z : Fin 64 → EReal) (r : Fin 8) : BitVec 32 := BitVec.ofNat 32 (place z r)

end Cert.Proof.Spec

end
-- ==== Proof.Words.lean ====
/-
  The numbers that the programs' constants and counters denote, and what the kernel's steps on them give.
-/
module

public import Idealize.ShloMosaic.PureOps.Ideal.Laws
public import proofs.«01_k».proof.Proof.Spec

@[expose] public section

noncomputable section

namespace Cert.Proof.Words

open Idealize.ShloMosaic

/-- The word of four denotes the number four. -/
theorem four : Ideal.ofBits .f32 0x40800000#32 = ((4 : ℝ) : EReal) := by
  simp [Ideal.ofBits, Ideal.ieee]
  rw [← EReal.coe_mul]
  norm_num

/-- The word of a quarter denotes a quarter. -/
theorem quarter : Ideal.ofBits .f32 0x3E800000#32 = ((1 / 4 : ℝ) : EReal) := by
  simp [Ideal.ofBits, Ideal.ieee]
  rw [← EReal.coe_mul]
  norm_num

/-- The word of sixty-four denotes the natural number sixty-four. -/
theorem sixtyFour : Ideal.ofBits .f32 0x42800000#32 = ((64 : ℕ) : EReal) := by
  have h : Ideal.ofBits .f32 0x42800000#32 = ((64 : ℝ) : EReal) := by
    simp [Ideal.ofBits, Ideal.ieee]
    rw [← EReal.coe_mul]
    norm_num
  rw [h]
  norm_cast

/-- The word of minus infinity denotes the bottom value. -/
theorem minusInf : Ideal.ofBits .f32 0xFF800000#32 = (⊥ : EReal) := by
  simp [Ideal.ofBits, Ideal.ieee]

/-- The word of plus infinity denotes the top value. -/
theorem plusInf : Ideal.ofBits .f32 0x7F800000#32 = (⊤ : EReal) := by
  simp [Ideal.ofBits, Ideal.ieee]

/-- A lane number converted to a float is that natural number. -/
theorem lane (k : Fin 64) : FloatOps.sitofp (F := Ideal) .f32 (BitVec.ofNat 32 (k : ℕ)) = ((k : ℕ) : EReal) := by
  have h : (BitVec.ofNat 32 (k : ℕ)).toInt = (k : ℕ) := by
    revert k; decide
  show (((BitVec.ofNat 32 (k : ℕ)).toInt : ℝ) : EReal) = _
  rw [h]
  norm_cast

/-- A lane number converted to a word is the word of that natural number. -/
theorem word (k : Fin 64) : Ideal.fptosi 32 ((k : ℕ) : EReal) = BitVec.ofNat 32 (k : ℕ) := by
  have h : ∀ k : Fin 64, Ideal.fptosi 32 (((k : ℕ) : ℝ) : EReal) = BitVec.ofNat 32 (k : ℕ) := by
    intro k
    have hk := k.isLt
    rw [Ideal.fptosi, Ideal.toIntClamped_coe, if_pos (Nat.cast_nonneg _), Int.floor_natCast]
    have h1 : min (((2 ^ (32 - 1) : ℕ) : ℤ) - 1) ((k : ℕ) : ℤ) = ((k : ℕ) : ℤ) := min_eq_right (by norm_num; omega)
    have h2 : max (-((2 ^ (32 - 1) : ℕ) : ℤ)) ((k : ℕ) : ℤ) = ((k : ℕ) : ℤ) := max_eq_right (by norm_num)
    rw [h1, h2, BitVec.ofInt_natCast]
  exact h k

/-- A quarter of a sum of four, added crosswise, is their mean. -/
theorem mean_eq (x : Fin 4 → EReal) : (x 0 + x 2 + (x 1 + x 3)) * ((1 / 4 : ℝ) : EReal) = Spec.mean x := by
  unfold Spec.mean Ideal.div
  rw [if_neg (by norm_num), Fin.sum_univ_four, ← EReal.coe_inv]
  congr 1
  · ac_rfl
  · norm_num

end Cert.Proof.Words

end
-- ==== Proof.Block.lean ====
/-
  What the kernel's body computes from one block of rows, read one row at a time.

  The body's values are named in pieces (the pooled block, the layers, one round of taking the largest score, the joined
  columns, the weights), and each piece is read at an index as the plain mathematics of `Spec` and `Rounds`.
-/
module

public import proofs.«01_k».proof.Proof.Gen.KernelIdeal.Skeleton
public import Idealize.ShloMosaic.Lib.Pointwise
public import proofs.«01_k».proof.Proof.Words

@[expose] public section

set_option maxRecDepth 16384

noncomputable section

namespace Cert.KernelIdeal.Block

open Cert.KernelIdeal Cert.KernelIdeal.Gen Idealize.ShloMosaic Cert.Proof

/-- The largest score of each row, as a column. -/
def maxV (z : FVec Ideal S256x64 .f32) : FVec Ideal S256x1 .f32 :=
  shapeCast S256x1 (multiReduction .maximumf [1] S256 z 0xFF800000#32 reduces_S256x64_S256 (.inl rfl) rfl) shapeCasts_S256_S256x1

/-- The least position of each row that holds its largest score, as a column. -/
def posV (z : FVec Ideal S256x64 .f32) : FVec Ideal S256x1 .f32 :=
  shapeCast S256x1 (multiReduction .minimumf [1] S256
    (select (cmpf .oeq z (broadcastTo S256x64 (maxV z) broadcasts_S256x1_S256x64)) (k0_pay8 (F := Ideal))
      (broadcast S256x64 (Scalar.ofBits .f32 0x42800000#32 : Ideal .f32)))
    0x7F800000#32 reduces_S256x64_S256 (.inl rfl) rfl) shapeCasts_S256_S256x1

/-- The scores with that position's entry of each row replaced by minus infinity. -/
def nextV (z : FVec Ideal S256x64 .f32) : FVec Ideal S256x64 .f32 :=
  select (cmpf .oeq (k0_pay8 (F := Ideal)) (broadcastTo S256x64 (posV z) broadcasts_S256x1_S256x64))
    (broadcast S256x64 (Scalar.ofBits .f32 0xFF800000#32 : Ideal .f32)) z

/-- The scores after `r` rounds. -/
def roundV (z : FVec Ideal S256x64 .f32) : ℕ → FVec Ideal S256x64 .f32
  | 0 => z
  | r + 1 => nextV (roundV z r)

/-- Eight columns joined. -/
def join (f : Fin 8 → FVec Ideal S256x1 .f32) : FVec Ideal S256x8 .f32 :=
  concatenate S256x8 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩]
    concatenates_S256x1_S256x1_S256x1_S256x1_S256x1_S256x1_S256x1_S256x1_S256x8_d1

/-- The exponentials of a block's entries less its first column. -/
def powersV (w : FVec Ideal S256x8 .f32) : FVec Ideal S256x8 .f32 :=
  exp (subf w (broadcastTo S256x8 (extractStridedSlice S256x1 ![0, 0] w slices_S256x8_o0_0_S256x1) broadcasts_S256x1_S256x8))

/-- Those exponentials divided by their row's sum. -/
def softV (w : FVec Ideal S256x8 .f32) : FVec Ideal S256x8 .f32 :=
  divf (powersV w) (broadcastTo S256x8 (shapeCast S256x1
    (multiReduction .add [1] S256 (powersV w) 0x00000000#32 reduces_S256x8_S256 (.inl rfl) rfl) shapeCasts_S256_S256x1) broadcasts_S256x1_S256x8)

/-- The largest score of row `i`. -/
theorem maxV_apply (z : FVec Ideal S256x64 .f32) (i : Fin 256) : maxV z (ix2 i 0) = Rounds.top fun k => z (ix2 i k) := by
  pointwise [maxV]
  rw [Words.minusInf]
  rfl

/-- The position found in row `i`. -/
theorem posV_apply (z : FVec Ideal S256x64 .f32) (i : Fin 256) : posV z (ix2 i 0) = Rounds.pos fun k => z (ix2 i k) := by
  pointwise [posV, maxV_apply, k0_pay8]
  simp only [Words.lane]
  rw [Words.plusInf, Words.sixtyFour]
  rfl

/-- Row `i` after one round. -/
theorem nextV_apply (z : FVec Ideal S256x64 .f32) (i : Fin 256) (k : Fin 64) : nextV z (ix2 i k) = Rounds.next (fun k => z (ix2 i k)) k := by
  pointwise [nextV, posV_apply, k0_pay8]
  rw [Words.lane, Words.minusInf]
  rfl

/-- Row `i` after `r` rounds. -/
theorem roundV_apply (z : FVec Ideal S256x64 .f32) (i : Fin 256) (r : ℕ) :
    (fun k => roundV z r (ix2 i k)) = Rounds.after (fun k => z (ix2 i k)) r := by
  induction r with
  | zero => rfl
  | succ r ih =>
    funext k
    show nextV (roundV z r) (ix2 i k) = Rounds.next (Rounds.after (fun k => z (ix2 i k)) r) k
    rw [nextV_apply, ih]

/-- Column `r` of the joined columns is column `r`. -/
theorem join_apply (f : Fin 8 → FVec Ideal S256x1 .f32) (i : Fin 256) (r : Fin 8) : join f (ix2 i r) = f r (ix2 i 0) := by
  pointwise [join]
  fin_vals r with hr
  all_goals
    simp only [hr, Nat.reduceSub, Nat.reduceLT, ↓reduceDIte]
    exact congrArg (fun s => f s (ix2 i 0)) (Fin.ext hr.symm)

/-- The weights of row `i`. -/
theorem softV_apply (w : FVec Ideal S256x8 .f32) (i : Fin 256) (r : Fin 8) : softV w (ix2 i r) = Spec.soft (fun s => w (ix2 i s)) r := by
  pointwise [softV, powersV, Spec.soft]

/-- The weights the body stores are the weights of the row's eight largest scores. -/
theorem weights_apply (z : FVec Ideal S256x64 .f32) (i : Fin 256) (r : Fin 8) :
    softV (join fun s => maxV (roundV z s)) (ix2 i r) = Spec.weight (fun k => z (ix2 i k)) r := by
  rw [softV_apply]
  unfold Spec.weight
  congr 1
  funext s
  rw [join_apply, maxV_apply, roundV_apply]
  exact Rounds.top_after (Order.sorts _) (s.castLE (by decide))

/-- The positions the body stores are the positions of the row's eight largest scores, where no score is the bottom value. -/
theorem indices_apply (z : FVec Ideal S256x64 .f32) (i : Fin 256) (r : Fin 8) (h : ∀ k, z (ix2 i k) ≠ ⊥) :
    fptosi 32 (join fun s => posV (roundV z s)) (ix2 i r) = Spec.index (fun k => z (ix2 i k)) r := by
  show Ideal.fptosi 32 (join (fun s => posV (roundV z s)) (ix2 i r)) = _
  rw [join_apply, posV_apply, roundV_apply]
  have hp : Rounds.pos (Rounds.after (fun k => z (ix2 i k)) (r : ℕ)) = ((Spec.place (fun k => z (ix2 i k)) r : ℕ) : EReal) :=
    Rounds.pos_after (Order.sorts _) (r.castLE (by decide)) (h _)
  rw [hp, Words.word]
  rfl

/-- The mean of four blocks, entry by entry. -/
def pool (x0 x1 x2 x3 : FVec Ideal S256x2048 .f32) (i : Fin 256) (k : Fin 2048) : EReal :=
  Spec.mean ![x0 (ix2 i k), x1 (ix2 i k), x2 (ix2 i k), x3 (ix2 i k)]

/-- The body's second layer on a block. -/
def hiddenV (x0 x1 x2 x3 : FVec Ideal S256x2048 .f32) (W1 : FVec Ideal S4096x2048 .bf16) (b1 : FVec Ideal S1x4096 .f32)
    (W2 : FVec Ideal S2048x4096 .bf16) (b2 : FVec Ideal S1x2048 .f32) : FVec Ideal S256x2048 .bf16 :=
  k0_pay5 (F := Ideal) x0 x2 x1 x3 W1 b1 W2 b2

/-- The body's scores on a block. -/
def scoresV (x0 x1 x2 x3 : FVec Ideal S256x2048 .f32) (W1 : FVec Ideal S4096x2048 .bf16) (b1 : FVec Ideal S1x4096 .f32)
    (W2 : FVec Ideal S2048x4096 .bf16) (b2 : FVec Ideal S1x2048 .f32) (W3 : FVec Ideal S64x2048 .bf16) (b3 : FVec Ideal S1x64 .f32) :
    FVec Ideal S256x64 .f32 :=
  k0_pay7 (F := Ideal) (hiddenV x0 x1 x2 x3 W1 b1 W2 b2) (k0_pay6 (F := Ideal) W3) b3

/-- The second layer of the body at row `i`. -/
theorem hiddenV_apply (x0 x1 x2 x3 : FVec Ideal S256x2048 .f32) (W1 : FVec Ideal S4096x2048 .bf16) (b1 : FVec Ideal S1x4096 .f32)
    (W2 : FVec Ideal S2048x4096 .bf16) (b2 : FVec Ideal S1x2048 .f32) (i : Fin 256) (j : Fin 2048) :
    hiddenV x0 x1 x2 x3 W1 b1 W2 b2 (ix2 i j)
      = Spec.relu (Spec.affine (fun j k => W2 (ix2 j k)) (fun j => b2 (ix2 0 j))
          (Spec.relu (Spec.affine (fun j k => W1 (ix2 j k)) (fun j => b1 (ix2 0 j)) (pool x0 x1 x2 x3 i)))) j := by
  have h : ∀ k, (x0 (ix2 i k) + x2 (ix2 i k) + (x1 (ix2 i k) + x3 (ix2 i k))) * Ideal.ofBits .f32 0x3E800000#32 = pool x0 x1 x2 x3 i k :=
    fun k => by rw [Words.quarter]; exact Words.mean_eq ![x0 (ix2 i k), x1 (ix2 i k), x2 (ix2 i k), x3 (ix2 i k)]
  pointwise [hiddenV, k0_pay5, Spec.relu, Spec.affine]
  simp only [h]

/-- The scores the body computes at row `i`. -/
theorem scoresV_row (x0 x1 x2 x3 : FVec Ideal S256x2048 .f32) (W1 : FVec Ideal S4096x2048 .bf16) (b1 : FVec Ideal S1x4096 .f32)
    (W2 : FVec Ideal S2048x4096 .bf16) (b2 : FVec Ideal S1x2048 .f32) (W3 : FVec Ideal S64x2048 .bf16) (b3 : FVec Ideal S1x64 .f32) (i : Fin 256) :
    (fun j => (scoresV x0 x1 x2 x3 W1 b1 W2 b2 W3 b3 (ix2 i j) : EReal))
      = Spec.scores (fun j k => W1 (ix2 j k)) (fun j => b1 (ix2 0 j)) (fun j k => W2 (ix2 j k)) (fun j => b2 (ix2 0 j))
          (fun j k => W3 (ix2 j k)) (fun j => b3 (ix2 0 j)) (pool x0 x1 x2 x3 i) := by
  funext j
  have h : scoresV x0 x1 x2 x3 W1 b1 W2 b2 W3 b3 (ix2 i j) = Spec.affine (fun j k => W3 (ix2 j k)) (fun j => b3 (ix2 0 j))
      (fun k => hiddenV x0 x1 x2 x3 W1 b1 W2 b2 (ix2 i k)) j := by
    pointwise [scoresV, k0_pay7, k0_pay6, Spec.affine]
  rw [h]
  simp only [hiddenV_apply]
  rfl

end Cert.KernelIdeal.Block

end
-- ==== Proof.Payload.lean ====
/-
  What one run of the body leaves in its two result blocks, in the names of `Block`.
-/
module

public import proofs.«01_k».proof.Proof.Gen.KernelIdeal.Frame
public import Idealize.ShloMosaic.Lib.Pipeline.Value
public import proofs.«01_k».proof.Proof.Block

@[expose] public section

set_option maxRecDepth 16384

noncomputable section

namespace Cert.KernelIdeal.Block

open Cert.KernelIdeal Cert.KernelIdeal.Gen Idealize.ShloMosaic Cert.Proof

/-- The two zero starts of a whole-block access are the zero offset. -/
theorem start_zero : (![0, 0] : Fin 2 → Nat) = fun _ => 0 := by
  funext a
  fin_cases a <;> rfl

variable (x0 x1 x2 x3 : FVec Ideal S256x2048 .f32) (W1 : FVec Ideal S4096x2048 .bf16) (b1 : FVec Ideal S1x4096 .f32)
    (W2 : FVec Ideal S2048x4096 .bf16) (b2 : FVec Ideal S1x2048 .f32) (W3 : FVec Ideal S64x2048 .bf16) (b3 : FVec Ideal S1x64 .f32)

/-- The body's second layer, read from whole blocks. -/
theorem pay31_eq : k0_pay31 (F := Ideal) x0 x1 x2 x3 W1 b1 W2 b2 W3 b3 = hiddenV x0 x1 x2 x3 W1 b1 W2 b2 := by
  unfold k0_pay31 hiddenV
  rw [View.ld_unit_zero start_zero, View.ld_unit_zero start_zero, View.ld_unit_zero start_zero, View.ld_unit_zero start_zero,
    View.ld_unit_zero start_zero, View.ld_unit_zero start_zero, View.ld_unit_zero start_zero, View.ld_unit_zero start_zero]

/-- The body's scores, read from whole blocks. -/
theorem pay7_eq : k0_pay7 (F := Ideal) (k0_pay31 x0 x1 x2 x3 W1 b1 W2 b2 W3 b3) (k0_pay32 x0 x1 x2 x3 W1 b1 W2 b2 W3 b3) (View.ld b3 r0_6)
    = scoresV x0 x1 x2 x3 W1 b1 W2 b2 W3 b3 := by
  rw [pay31_eq]
  unfold k0_pay32 scoresV
  rw [View.ld_unit_zero start_zero, View.ld_unit_zero start_zero]

/-- The scores after three rounds. -/
theorem pay34_eq : k0_pay34 (F := Ideal) x0 x1 x2 x3 W1 b1 W2 b2 W3 b3 = roundV (scoresV x0 x1 x2 x3 W1 b1 W2 b2 W3 b3) 3 := by
  rw [← pay7_eq]
  rfl

/-- The block of weights. -/
theorem out10_eq : out0_10 (F := Ideal) x0 x1 x2 x3 W1 b1 W2 b2 W3 b3
    = softV (join fun s => maxV (roundV (scoresV x0 x1 x2 x3 W1 b1 W2 b2 W3 b3) s)) := by
  rw [← pay7_eq]
  unfold out0_10
  rw [View.canon_unit_zero start_zero]
  rfl

/-- The block of positions. -/
theorem out11_eq : out0_11 (F := Ideal) x0 x1 x2 x3 W1 b1 W2 b2 W3 b3
    = fptosi 32 (join fun s => posV (roundV (scoresV x0 x1 x2 x3 W1 b1 W2 b2 W3 b3) s)) := by
  rw [← pay7_eq]
  unfold out0_11
  rw [View.canon_unit_zero start_zero]
  rfl

end Cert.KernelIdeal.Block

end
-- ==== Proof.Operands.lean ====
/-
  The blocks the kernel's windows read at a grid point, in terms of the program's arguments.

  Before the kernel runs, the program cuts the first argument into its four slices along the last axis, rounds the
  weights (which changes nothing over the reals) and lays each bias out as one row. At point `t` the body reads rows
  `256 t` to `256 t + 255` of each slice and the whole of every weight and bias.
-/
module

public import proofs.«01_k».proof.Proof.Gen.KernelIdeal.Frame
public import Idealize.ShloMosaic.Lib.Pipeline.Value
public import Idealize.ShloMosaic.Lib.Pipeline.ValueKit.Point
public import Idealize.ShloMosaic.Lib.Pointwise

@[expose] public section

set_option maxRecDepth 16384

noncomputable section

namespace Cert.KernelIdeal.Operands

open Cert.KernelIdeal Cert.KernelIdeal.Gen Idealize.ShloMosaic Idealize.ShloMosaic.TcCoe

variable (m : (ℓ : Loc nD τ sig) → Buf (Elt Ideal) ℓ) (c : Dev nD) (t : Fin cfg0.N)

/-- Row `i` of block `t` as a row of the array. -/
def row (i : Fin 256) : Fin 4096 := ⟨t.val * 256 + i.val, by have h : t.val < 16 := t.isLt; omega⟩

/-- The slices' windows and the results' windows are at block row `t`. -/
theorem index_rows : ∀ t : Fin cfg0.N, win0_0.index t = ![t.val, 0] ∧ win0_1.index t = ![t.val, 0] ∧ win0_2.index t = ![t.val, 0]
    ∧ win0_3.index t = ![t.val, 0] ∧ win0_10.index t = ![t.val, 0] ∧ win0_11.index t = ![t.val, 0] :=
  (by decide +kernel : ∀ t : Fin grid0.N, _)

/-- The weights' windows and the biases' windows are always at their one block. -/
theorem index_whole : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

set_option maxHeartbeats 1000000 in
/-- The blocks read of the four slices of the first argument. -/
theorem slices (i : Fin 256) (k : Fin 2048) :
    (iblk m c 0 t : FVec Ideal S256x2048 .f32) (ix2 i k) = (m ((c : Thread nD τ).loc main_arg0) : FVec Ideal S4096x2048x4 .f32) (ix3 (row t i) k 0)
    ∧ (iblk m c 1 t : FVec Ideal S256x2048 .f32) (ix2 i k) = (m ((c : Thread nD τ).loc main_arg0) : FVec Ideal S4096x2048x4 .f32) (ix3 (row t i) k 1)
    ∧ (iblk m c 2 t : FVec Ideal S256x2048 .f32) (ix2 i k) = (m ((c : Thread nD τ).loc main_arg0) : FVec Ideal S4096x2048x4 .f32) (ix3 (row t i) k 2)
    ∧ (iblk m c 3 t : FVec Ideal S256x2048 .f32) (ix2 i k) = (m ((c : Thread nD τ).loc main_arg0) : FVec Ideal S4096x2048x4 .f32) (ix3 (row t i) k 3) := by
  obtain ⟨h0, h1, h2, h3, -⟩ := index_rows t
  refine ⟨?_, ?_, ?_, ?_⟩ <;> blk_ext! [iblk, V, h0, h1, h2, h3, row]

/-- The blocks read of the three weights are the weights. -/
theorem weights :
    (∀ j k, (iblk m c 4 t : FVec Ideal S4096x2048 .bf16) (ix2 j k) = (m ((c : Thread nD τ).loc main_arg1) : FVec Ideal S4096x2048 .f32) (ix2 j k))
    ∧ (∀ j k, (iblk m c 6 t : FVec Ideal S2048x4096 .bf16) (ix2 j k) = (m ((c : Thread nD τ).loc main_arg3) : FVec Ideal S2048x4096 .f32) (ix2 j k))
    ∧ (∀ j k, (iblk m c 8 t : FVec Ideal S64x2048 .bf16) (ix2 j k) = (m ((c : Thread nD τ).loc main_arg5) : FVec Ideal S64x2048 .f32) (ix2 j k)) := by
  obtain ⟨h4, -, h6, -, h8, -⟩ := index_whole t
  refine ⟨fun j k => ?_, fun j k => ?_, fun j k => ?_⟩ <;> blk_ext! [iblk, V, h4, h6, h8]

/-- The blocks read of the three biases are the biases. -/
theorem biases :
    (∀ j, (iblk m c 5 t : FVec Ideal S1x4096 .f32) (ix2 0 j) = (m ((c : Thread nD τ).loc main_arg2) : FVec Ideal S4096 .f32) (ix1 j))
    ∧ (∀ j, (iblk m c 7 t : FVec Ideal S1x2048 .f32) (ix2 0 j) = (m ((c : Thread nD τ).loc main_arg4) : FVec Ideal S2048 .f32) (ix1 j))
    ∧ (∀ j, (iblk m c 9 t : FVec Ideal S1x64 .f32) (ix2 0 j) = (m ((c : Thread nD τ).loc main_arg6) : FVec Ideal S64 .f32) (ix1 j)) := by
  obtain ⟨-, h5, -, h7, -, h9⟩ := index_whole t
  refine ⟨fun j => ?_, fun j => ?_, fun j => ?_⟩ <;> blk_ext! [iblk, V, h5, h7, h9]

end Cert.KernelIdeal.Operands

end
-- ==== Proof.Arrays.lean ====
/-
  The two result arrays after the kernel's run, row by row.
-/
module

public import proofs.«01_k».proof.Proof.Gen.KernelIdeal.Value
public import Idealize.ShloMosaic.Lib.Pipeline.ValueKit.Geometry
public import proofs.«01_k».proof.Proof.Payload
public import proofs.«01_k».proof.Proof.Operands

@[expose] public section

set_option maxRecDepth 16384

noncomputable section

namespace Cert.KernelIdeal.Arrays

open Cert.KernelIdeal Cert.KernelIdeal.Gen Idealize.ShloMosaic Idealize.ShloMosaic.TcCoe Cert.Proof

/-- The scores of row `i` of the arguments. -/
def scoresOf (x : FVec Ideal S4096x2048x4 .f32) (W1 : FVec Ideal S4096x2048 .f32) (b1 : FVec Ideal S4096 .f32) (W2 : FVec Ideal S2048x4096 .f32)
    (b2 : FVec Ideal S2048 .f32) (W3 : FVec Ideal S64x2048 .f32) (b3 : FVec Ideal S64 .f32) (i : Fin 4096) : Fin 64 → EReal :=
  Spec.scores (fun j k => W1 (ix2 j k)) (fun j => b1 (ix1 j)) (fun j k => W2 (ix2 j k)) (fun j => b2 (ix1 j))
    (fun j k => W3 (ix2 j k)) (fun j => b3 (ix1 j)) fun k => Spec.mean fun l => x (ix3 i k l)

variable (m : (ℓ : Loc nD τ sig) → Buf (Elt Ideal) ℓ) (c : Dev nD) (t : Fin cfg0.N)

/-- The scores of row `i` of device `c`'s arguments. -/
def rowScores (i : Fin 4096) : Fin 64 → EReal :=
  scoresOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) i

/-- The scores the body computes at point `t`. -/
def pointScores : FVec Ideal S256x64 .f32 :=
  Block.scoresV (iblk m c 0 t) (iblk m c 1 t) (iblk m c 2 t) (iblk m c 3 t) (iblk m c 4 t) (iblk m c 5 t) (iblk m c 6 t) (iblk m c 7 t)
    (iblk m c 8 t) (iblk m c 9 t)

/-- The pooled block at point `t` is the mean of the rows of the first argument. -/
theorem pool_eq (i : Fin 256) (k : Fin 2048) :
    Block.pool (iblk m c 0 t) (iblk m c 1 t) (iblk m c 2 t) (iblk m c 3 t) i k
      = Spec.mean fun l => (m ((c : Thread nD τ).loc main_arg0) : FVec Ideal S4096x2048x4 .f32) (ix3 (Operands.row t i) k l) := by
  obtain ⟨h0, h1, h2, h3⟩ := Operands.slices m c t i k
  unfold Block.pool
  congr 1
  funext l
  match l with
  | 0 => exact h0
  | 1 => exact h1
  | 2 => exact h2
  | 3 => exact h3

/-- Row `i` of the scores at point `t` is row `256 t + i` of the arguments' scores. -/
theorem pointScores_row (i : Fin 256) : (fun j => pointScores m c t (ix2 i j)) = rowScores m c (Operands.row t i) := by
  obtain ⟨w1, w2, w3⟩ := Operands.weights m c t
  obtain ⟨b1, b2, b3⟩ := Operands.biases m c t
  refine (Block.scoresV_row _ _ _ _ _ _ _ _ _ _ i).trans ?_
  unfold rowScores scoresOf
  have hp : Block.pool (iblk m c 0 t) (iblk m c 1 t) (iblk m c 2 t) (iblk m c 3 t) i = _ := funext fun k => pool_eq m c t i k
  rw [hp]
  simp only [w1, w2, w3, b1, b2, b3]

/-- The array of weights. -/
def weightsOf : FVec Ideal S4096x8 .f32 := fun q => Spec.weight (rowScores m c (q 0)) (q 1)

/-- The array of positions. -/
def positionsOf : IVec S4096x8 32 := fun q => Spec.index (rowScores m c (q 0)) (q 1)

/-- An element of block `t` of the array of weights is at its row of the array. -/
theorem place10 (i : Fin 256) (r : Fin 8) : ((cfg0.win 10).blk t).view.emb (ix2 i r) = (ix2 (Operands.row t i) r : S4096x8.Idx) := by
  obtain ⟨-, -, -, -, h, -⟩ := Operands.index_rows t
  blk_ext [h, Operands.row]

/-- An element of block `t` of the array of positions is at its row of the array. -/
theorem place11 (i : Fin 256) (r : Fin 8) : ((cfg0.win 11).blk t).view.emb (ix2 i r) = (ix2 (Operands.row t i) r : S4096x8.Idx) := by
  obtain ⟨-, -, -, -, -, h⟩ := Operands.index_rows t
  blk_ext [h, Operands.row]

/-- What point `t` writes back of the weights is its block of the array of weights. -/
theorem flushed_weights : (dats m 0 c).flushed 10 t = ((cfg0.win 10).blk t).view.read (Elt Ideal) (weightsOf m c) := by
  rw [Value.flushed10]
  funext y
  obtain ⟨i, r, rfl⟩ : ∃ (i : Fin 256) (r : Fin 8), y = ix2 i r := ⟨y 0, y 1, by funext a; match a with | ⟨0, _⟩ => rfl | ⟨1, _⟩ => rfl⟩
  show out0_10 (F := Ideal) _ _ _ _ _ _ _ _ _ _ (ix2 i r) = weightsOf m c (((cfg0.win 10).blk t).view.emb (ix2 i r))
  rw [Block.out10_eq, place10]
  refine (Block.weights_apply (pointScores m c t) i r).trans ?_
  rw [pointScores_row]
  rfl

/-- What point `t` writes back of the positions is its block of the array of positions, where no score is the bottom value. -/
theorem flushed_positions (h : ∀ i k, rowScores m c i k ≠ ⊥) :
    (dats m 0 c).flushed 11 t = ((cfg0.win 11).blk t).view.read (Elt Ideal) (positionsOf m c) := by
  rw [Value.flushed11]
  funext y
  obtain ⟨i, r, rfl⟩ : ∃ (i : Fin 256) (r : Fin 8), y = ix2 i r := ⟨y 0, y 1, by funext a; match a with | ⟨0, _⟩ => rfl | ⟨1, _⟩ => rfl⟩
  show out0_11 (F := Ideal) _ _ _ _ _ _ _ _ _ _ (ix2 i r) = positionsOf m c (((cfg0.win 11).blk t).view.emb (ix2 i r))
  rw [Block.out11_eq, place11]
  have hrow := pointScores_row m c t i
  refine (Block.indices_apply (pointScores m c t) i r fun k => ?_).trans ?_
  · rw [congrFun hrow k]
    exact h _ k
  · rw [hrow]
    rfl

/-- The blocks of each result array cover it. -/
theorem covers : win0_10.Covers ∧ win0_11.Covers := by decide +kernel

/-- The array of weights after the run. -/
theorem weights_eq : (dats m 0 c).arrAt 10 cfg0.N = weightsOf m c :=
  (dats m 0 c).arrAt_eq_of_cover 10 (weightsOf m c) (fun t _ => flushed_weights m c t) (Pipeline.Window.Covers.cover win0_10 covers.1 (Memref.isWhole_whole _))

/-- The array of positions after the run, where no score is the bottom value. -/
theorem positions_eq (h : ∀ i k, rowScores m c i k ≠ ⊥) : (dats m 0 c).arrAt 11 cfg0.N = positionsOf m c :=
  (dats m 0 c).arrAt_eq_of_cover 11 (positionsOf m c) (fun t _ => flushed_positions m c t h) (Pipeline.Window.Covers.cover win0_11 covers.2 (Memref.isWhole_whole _))

end Cert.KernelIdeal.Arrays

end
-- ==== Proof.RefScores.lean ====
/-
  What the reference computes, read one row at a time.

  The reference's composed term is named in pieces (the pooled array, the three layers, the selection of the eight
  largest, the weights), and each piece is read at an index as the plain mathematics of `Spec`.
-/
module

public import proofs.«01_k».proof.Proof.Gen.ReferenceIdeal
public import Idealize.ShloMosaic.Lib.Pointwise
public import proofs.«01_k».proof.Proof.Words

@[expose] public section

set_option maxRecDepth 16384

noncomputable section

namespace Cert.ReferenceIdeal.Rows

open Cert.ReferenceIdeal Cert.ReferenceIdeal.Gen Idealize.ShloMosaic Cert.Proof

/-- The pooled array: the sum over the last axis divided by four. -/
def pooled (x : FVec Ideal S4096x2048x4 .f32) : FVec Ideal S4096x2048 .f32 :=
  Host.divf (Host.reduceAdd x (constant S_ .f32 0x00000000#32) reducesTo_S4096x2048x4_S4096x2048_d2 h_S_)
    (broadcastInDim S4096x2048 ![] bcast_S_S4096x2048 (constant S_ .f32 0x40800000#32))

/-- The first layer of an array of pooled rows. -/
def hidden1 (p W1 : FVec Ideal S4096x2048 .f32) (b1 : FVec Ideal S4096 .f32) : FVec Ideal S4096x4096 .f32 :=
  maximumf (addf (Host.dotGeneral dot_S4096x2048_S2048x4096_S4096x4096_1_0_0_1_n_n none p
      (transpose S2048x4096 [1, 0] W1 transposes_S4096x2048_S2048x4096_1_0))
    (broadcastInDim S4096x4096 ![0, 1] bcast_S1x4096_S4096x4096_0_1 (broadcastInDim S1x4096 ![1] bcast_S4096_S1x4096_1 b1)))
    (broadcastInDim S4096x4096 ![] bcast_S_S4096x4096 (constant S_ .f32 0x00000000#32))

/-- The second layer of an array of rows. -/
def hidden2 (h : FVec Ideal S4096x4096 .f32) (W2 : FVec Ideal S2048x4096 .f32) (b2 : FVec Ideal S2048 .f32) : FVec Ideal S4096x2048 .f32 :=
  maximumf (addf (Host.dotGeneral dot_S4096x4096_S4096x2048_S4096x2048_1_0_0_1_n_n none h
      (transpose S4096x2048 [1, 0] W2 transposes_S2048x4096_S4096x2048_1_0))
    (broadcastInDim S4096x2048 ![0, 1] bcast_S1x2048_S4096x2048_0_1 (broadcastInDim S1x2048 ![1] bcast_S2048_S1x2048_1 b2)))
    (broadcastInDim S4096x2048 ![] bcast_S_S4096x2048 (constant S_ .f32 0x00000000#32))

/-- The third layer of an array of rows: the scores. -/
def layer3 (h : FVec Ideal S4096x2048 .f32) (W3 : FVec Ideal S64x2048 .f32) (b3 : FVec Ideal S64 .f32) : FVec Ideal S4096x64 .f32 :=
  addf (Host.dotGeneral dot_S4096x2048_S2048x64_S4096x64_1_0_0_1_n_n none h
      (transpose S2048x64 [1, 0] W3 transposes_S64x2048_S2048x64_1_0))
    (broadcastInDim S4096x64 ![0, 1] bcast_S1x64_S4096x64_0_1 (broadcastInDim S1x64 ![1] bcast_S64_S1x64_1 b3))

/-- The scores of the arguments. -/
def scores (x : FVec Ideal S4096x2048x4 .f32) (W1 : FVec Ideal S4096x2048 .f32) (b1 : FVec Ideal S4096 .f32) (W2 : FVec Ideal S2048x4096 .f32)
    (b2 : FVec Ideal S2048 .f32) (W3 : FVec Ideal S64x2048 .f32) (b3 : FVec Ideal S64 .f32) : FVec Ideal S4096x64 .f32 :=
  layer3 (hidden2 (hidden1 (pooled x) W1 b1) W2 b2) W3 b3

/-- The eight largest scores of each row, with their positions. -/
def largest (z : FVec Ideal S4096x64 .f32) : (S4096x8.Idx → Ideal .f32) × IVec S4096x8 32 :=
  Host.topK S4096x8 1 (FloatOps.cmpfTotal .gt) z sliceFits_S4096x64_S4096x8

/-- The exponentials of an array's entries less the row's largest. -/
def powers (w : FVec Ideal S4096x8 .f32) : FVec Ideal S4096x8 .f32 :=
  Host.exp (subf w (broadcastInDim S4096x8 ![0, 1] bcast_S4096x1_S4096x8_0_1 (broadcastInDim S4096x1 ![0] bcast_S4096_S4096x1_0
    (maximumf (broadcastInDim S4096 ![] bcast_S_S4096 (constant S_ .f32 0xFF800000#32))
      (Host.reduce FloatOps.maximumf w (constant S_ .f32 0xFF800000#32) reducesTo_S4096x8_S4096_d1 h_S_)))))

/-- Those exponentials divided by their row's sum. -/
def softmax (w : FVec Ideal S4096x8 .f32) : FVec Ideal S4096x8 .f32 :=
  Host.divf (powers w) (broadcastInDim S4096x8 ![0, 1] bcast_S4096x1_S4096x8_0_1 (broadcastInDim S4096x1 ![0] bcast_S4096_S4096x1_0
    (Host.reduceAdd (powers w) (constant S_ .f32 0x00000000#32) reducesTo_S4096x8_S4096_d1 h_S_)))

/-- An element of the pooled array is the mean of the four it pools. -/
theorem pooled_apply (x : FVec Ideal S4096x2048x4 .f32) (i : Fin 4096) (k : Fin 2048) :
    pooled x (ix2 i k) = Spec.mean fun l => x (ix3 i k l) := by
  pointwise [pooled, Spec.mean]
  rw [Words.four]

/-- An element of the first hidden layer is the relu of an affine form of the pooled row. -/
theorem hidden1_apply (p W1 : FVec Ideal S4096x2048 .f32) (b1 : FVec Ideal S4096 .f32) (i : Fin 4096) (j : Fin 4096) :
    hidden1 p W1 b1 (ix2 i j) = Spec.relu (Spec.affine (fun j k => W1 (ix2 j k)) (fun j => b1 (ix1 j)) fun k => p (ix2 i k)) j := by
  pointwise [hidden1, Spec.relu, Spec.affine]

/-- An element of the second hidden layer is the relu of an affine form of the first layer's row. -/
theorem hidden2_apply (h : FVec Ideal S4096x4096 .f32) (W2 : FVec Ideal S2048x4096 .f32) (b2 : FVec Ideal S2048 .f32) (i : Fin 4096) (j : Fin 2048) :
    hidden2 h W2 b2 (ix2 i j) = Spec.relu (Spec.affine (fun j k => W2 (ix2 j k)) (fun j => b2 (ix1 j)) fun k => h (ix2 i k)) j := by
  pointwise [hidden2, Spec.relu, Spec.affine]

/-- A score is an affine form of the second hidden layer's row. -/
theorem layer3_apply (h : FVec Ideal S4096x2048 .f32) (W3 : FVec Ideal S64x2048 .f32) (b3 : FVec Ideal S64 .f32) (i : Fin 4096) (j : Fin 64) :
    layer3 h W3 b3 (ix2 i j) = Spec.affine (fun j k => W3 (ix2 j k)) (fun j => b3 (ix1 j)) (fun k => h (ix2 i k)) j := by
  pointwise [layer3, Spec.affine]

/-- Row `i` of the scores is `Spec.scores` of the pooled row. -/
theorem scores_row (x : FVec Ideal S4096x2048x4 .f32) (W1 : FVec Ideal S4096x2048 .f32) (b1 : FVec Ideal S4096 .f32) (W2 : FVec Ideal S2048x4096 .f32)
    (b2 : FVec Ideal S2048 .f32) (W3 : FVec Ideal S64x2048 .f32) (b3 : FVec Ideal S64 .f32) (i : Fin 4096) :
    (fun j => scores x W1 b1 W2 b2 W3 b3 (ix2 i j))
      = Spec.scores (fun j k => W1 (ix2 j k)) (fun j => b1 (ix1 j)) (fun j k => W2 (ix2 j k)) (fun j => b2 (ix1 j))
          (fun j k => W3 (ix2 j k)) (fun j => b3 (ix1 j)) fun k => Spec.mean fun l => x (ix3 i k l) := by
  funext j
  unfold scores Spec.scores
  rw [layer3_apply]
  simp only [hidden2_apply, hidden1_apply, pooled_apply]

/-- Replacing the second coordinate of an index of the scores. -/
theorem along_eq (i : Fin 4096) (j k : Fin 64) : Shape.Idx.along (s := S4096x64) (ix2 i j) (1 : Fin 2) k = ix2 i k := by
  funext a
  match a with
  | ⟨0, _⟩ => rfl
  | ⟨1, _⟩ => rfl

/-- The host's compare of two scores is "greater". -/
theorem compare_eq (a b : EReal) : (FloatOps.cmpfTotal (F := Ideal) (φ := .f32) .gt a b == 1#1) = decide (b < a) := by
  rw [Ideal.cmpfTotal_def]
  show (BitVec.ofBool (decide (b < a)) == 1#1) = decide (b < a)
  cases decide (b < a) <;> rfl

/-- The compare along row `i` is "greater" on that row. -/
theorem before_eq (z : FVec Ideal S4096x64 .f32) (i : Fin 4096) (j : Fin 64) :
    (fun k k' : Fin 64 => FloatOps.cmpfTotal (F := Ideal) (φ := .f32) .gt (z (Shape.Idx.along (s := S4096x64) (ix2 i j) (1 : Fin 2) k))
      (z (Shape.Idx.along (s := S4096x64) (ix2 i j) (1 : Fin 2) k')) == 1#1) = Order.greater fun j => z (ix2 i j) := by
  funext k k'
  rw [along_eq, along_eq, compare_eq]
  rfl

/-- The sort of the scores along their rows, carrying any array of words: both are read at the place of the order. -/
theorem sorted_apply (z : FVec Ideal S4096x64 .f32) (y : IVec S4096x64 32) (i : Fin 4096) (j : Fin 64) :
    (Host.sort2 S4096x64 1 (fun l r => FloatOps.cmpfTotal .gt l.1 r.1) z y).1 (ix2 i j) = z (ix2 i (sortedFrom (Order.greater fun j => z (ix2 i j)) j))
    ∧ (Host.sort2 S4096x64 1 (fun l r => FloatOps.cmpfTotal .gt l.1 r.1) z y).2 (ix2 i j) = y (ix2 i (sortedFrom (Order.greater fun j => z (ix2 i j)) j)) := by
  unfold Host.sort2
  rw [dif_pos (by decide)]
  have h := before_eq z i j
  constructor
  · show z (Shape.Idx.along (s := S4096x64) (ix2 i j) (1 : Fin 2) (sortedFrom (fun k k' : Fin 64 => FloatOps.cmpfTotal (F := Ideal) (φ := .f32) .gt
      (z (Shape.Idx.along (s := S4096x64) (ix2 i j) (1 : Fin 2) k)) (z (Shape.Idx.along (s := S4096x64) (ix2 i j) (1 : Fin 2) k')) == 1#1) j)) = _
    rw [h]
    exact congrArg _ (along_eq i j _)
  · show y (Shape.Idx.along (s := S4096x64) (ix2 i j) (1 : Fin 2) (sortedFrom (fun k k' : Fin 64 => FloatOps.cmpfTotal (F := Ideal) (φ := .f32) .gt
      (z (Shape.Idx.along (s := S4096x64) (ix2 i j) (1 : Fin 2) k)) (z (Shape.Idx.along (s := S4096x64) (ix2 i j) (1 : Fin 2) k')) == 1#1) j)) = _
    rw [h]
    exact congrArg _ (along_eq i j _)

/-- The largest scores of row `i`, in order: the scores at the places of that order. -/
theorem largest_fst (z : FVec Ideal S4096x64 .f32) (i : Fin 4096) (r : Fin 8) :
    (largest z).1 (ix2 i r) = z (ix2 i (Spec.place (fun j => z (ix2 i j)) r)) := by
  unfold largest Host.topK
  pointwise []
  exact (sorted_apply z _ i (r.castLE (by decide))).1

/-- The positions of the largest scores of row `i`, in order. -/
theorem largest_snd (z : FVec Ideal S4096x64 .f32) (i : Fin 4096) (r : Fin 8) :
    (largest z).2 (ix2 i r) = Spec.index (fun j => z (ix2 i j)) r := by
  unfold largest Host.topK
  pointwise []
  exact (sorted_apply z _ i (r.castLE (by decide))).2

/-- The largest of eight values that are no larger than the first is the first. -/
theorem fold_max (w : Fin 8 → EReal) (h : ∀ s, w s ≤ w 0) : max (⊥ : EReal) (Finset.univ.fold max ⊥ w) = w 0 := by
  rw [max_eq_right bot_le]
  apply le_antisymm
  · exact Finset.fold_max_le _ |>.mpr ⟨bot_le, fun s _ => h s⟩
  · exact Finset.le_fold_max _ |>.mpr (Or.inr ⟨0, Finset.mem_univ _, le_rfl⟩)

/-- The softmax of a row whose first entry is its largest. -/
theorem softmax_apply (w : FVec Ideal S4096x8 .f32) (i : Fin 4096) (h : ∀ s : Fin 8, w (ix2 i s) ≤ w (ix2 i 0)) (r : Fin 8) :
    softmax w (ix2 i r) = Spec.soft (fun s => w (ix2 i s)) r := by
  pointwise [softmax, powers]
  rw [Words.minusInf, fold_max (fun s => w (ix2 i s)) h]
  rfl

/-- The weights of row `i`. -/
theorem weight_apply (z : FVec Ideal S4096x64 .f32) (i : Fin 4096) (r : Fin 8) :
    softmax (largest z).1 (ix2 i r) = Spec.weight (fun j => z (ix2 i j)) r := by
  rw [softmax_apply]
  · unfold Spec.weight
    simp only [largest_fst]
  · intro s
    rw [largest_fst, largest_fst]
    exact (Order.sorts fun j => z (ix2 i j)).le (Fin.zero_le _)

end Cert.ReferenceIdeal.Rows

end
-- ==== Proof.RefRun.lean ====
/-
  The reference's run, with its two results in the names of `RefScores`.
-/
module

public import proofs.«01_k».proof.Proof.Gen.ReferenceIdeal.Run
public import proofs.«01_k».proof.Proof.RefScores

@[expose] public section

set_option maxRecDepth 16384

noncomputable section

namespace Cert.ReferenceIdeal.Rows

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The scores of device `c`'s arguments. -/
def scoresAt (c : Dev nD) : FVec Ideal S4096x64 .f32 :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The first result's term is the softmax of the eight largest scores. -/
theorem first_eq (c : Dev nD) : Value.res_main_v30 m c = softmax (largest (scoresAt m c)).1 := rfl

/-- The run: the first result is the softmax of the eight largest scores, the second their positions, the arguments are unchanged. -/
theorem run : θ_run defs (onTc (τ := τ) (main (F := Ideal))) ⟨m, fun _ => 0, ρ⟩ fun r => ∀ c : Dev nD,
      r.2.mem ((c : Thread nD τ).loc main_v30) = softmax (largest (scoresAt m c)).1
      ∧ r.2.mem ((c : Thread nD τ).loc main_indices) = (largest (scoresAt m c)).2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (first_eq m c), (h c).2⟩) (Value.run (F := Ideal) m ρ)

end Cert.ReferenceIdeal.Rows

end
-- ==== Proof.Reals.lean ====
/-
  Scores of real arguments are real, so none is the bottom value.
-/
module

public import proofs.«01_k».proof.Proof.Words

@[expose] public section

noncomputable section

namespace Cert.Proof.Reals

open Idealize.ShloMosaic

/-- The extended real is a real number. -/
def IsReal (a : EReal) : Prop := ∃ r : ℝ, a = (r : EReal)

/-- A real number is not the bottom value. -/
theorem IsReal.ne_bot {a : EReal} : IsReal a → a ≠ ⊥ := by
  rintro ⟨r, rfl⟩
  exact EReal.coe_ne_bot r

/-- An extended real whose magnitude is below infinity is a real number. -/
theorem of_abs_lt {a : EReal} (h : max a (-a) < ⊤) : IsReal a := by
  have ha : a ≠ ⊤ := fun e => by simp [e] at h
  have hb : a ≠ ⊥ := fun e => by simp [e] at h
  exact ⟨a.toReal, (EReal.coe_toReal ha hb).symm⟩

/-- A sum of two reals is real. -/
theorem IsReal.add {a b : EReal} : IsReal a → IsReal b → IsReal (a + b) := by
  rintro ⟨r, rfl⟩ ⟨s, rfl⟩
  exact ⟨r + s, (EReal.coe_add r s).symm⟩

/-- A product of two reals is real. -/
theorem IsReal.mul {a b : EReal} : IsReal a → IsReal b → IsReal (a * b) := by
  rintro ⟨r, rfl⟩ ⟨s, rfl⟩
  exact ⟨r * s, (EReal.coe_mul r s).symm⟩

/-- A finite sum of reals is real. -/
theorem IsReal.sum {n : ℕ} {f : Fin n → EReal} (h : ∀ i, IsReal (f i)) : IsReal (∑ i, f i) :=
  Finset.sum_induction f IsReal (fun _ _ => IsReal.add) ⟨0, rfl⟩ fun i _ => h i

/-- An affine layer of reals is real. -/
theorem affine {n k : ℕ} {W : Fin k → Fin n → EReal} {b : Fin k → EReal} {v : Fin n → EReal} (hW : ∀ j i, IsReal (W j i))
    (hb : ∀ j, IsReal (b j)) (hv : ∀ i, IsReal (v i)) (j : Fin k) : IsReal (Spec.affine W b v j) :=
  (IsReal.sum fun i => (hv i).mul (hW j i)).add (hb j)

/-- A real cut at zero is real. -/
theorem relu {n : ℕ} {v : Fin n → EReal} (hv : ∀ i, IsReal (v i)) (i : Fin n) : IsReal (Spec.relu v i) := by
  unfold Spec.relu
  rcases max_choice (v i) 0 with h | h
  · rw [h]
    exact hv i
  · exact ⟨0, h⟩

/-- A mean of reals is real. -/
theorem mean {x : Fin 4 → EReal} (h : ∀ l, IsReal (x l)) : IsReal (Spec.mean x) := by
  rw [← Words.mean_eq]
  exact (((h 0).add (h 2)).add ((h 1).add (h 3))).mul ⟨1 / 4, rfl⟩

/-- The scores of reals are real. -/
theorem scores {W1 : Fin 4096 → Fin 2048 → EReal} {b1 : Fin 4096 → EReal} {W2 : Fin 2048 → Fin 4096 → EReal} {b2 : Fin 2048 → EReal}
    {W3 : Fin 64 → Fin 2048 → EReal} {b3 : Fin 64 → EReal} {p : Fin 2048 → EReal} (hp : ∀ k, IsReal (p k))
    (h1 : ∀ j k, IsReal (W1 j k)) (c1 : ∀ j, IsReal (b1 j)) (h2 : ∀ j k, IsReal (W2 j k)) (c2 : ∀ j, IsReal (b2 j))
    (h3 : ∀ j k, IsReal (W3 j k)) (c3 : ∀ j, IsReal (b3 j)) (j : Fin 64) : IsReal (Spec.scores W1 b1 W2 b2 W3 b3 p j) :=
  affine h3 c3 (relu (affine h2 c2 (relu (affine h1 c1 hp)))) j

end Cert.Proof.Reals

end
-- ==== Proof.Given.lean ====
/-
  What the precondition and the mask say of an element.
-/
module

public import proofs.«01_k».proof.Pre_real_arguments
public import proofs.«01_k».proof.On_all_weights
public import proofs.«01_k».proof.Proof.Reals

@[expose] public section

noncomputable section

open Idealize.ShloMosaic Cert.Proof

/-- The shapes in the precondition fit. -/
theorem Cert.Pre_real_arguments.facts : Cert.Pre_real_arguments.Facts := by
  constructor <;> decide

/-- The shapes in the mask fit. -/
theorem Cert.On_all_weights.facts : Cert.On_all_weights.Facts := by
  constructor
  decide

namespace Cert.Proof.Given

/-- An element whose magnitude compares below infinity is real. -/
theorem real_of_compare {a : Ideal .f32}
    (h : FloatOps.cmpf .olt (FloatOps.hostAbsf a) (FloatOps.ofBits .f32 0x7F800000#32 : Ideal .f32) = 1#1) : Reals.IsReal a := by
  apply Reals.of_abs_lt
  have h' : BitVec.ofBool (decide (max (a : EReal) (-a) < Ideal.ofBits .f32 0x7F800000#32)) = 1#1 := h
  rw [Words.plusInf] at h'
  by_contra hn
  rw [decide_eq_false hn] at h'
  exact absurd h' (by decide)

section
open Cert.Pre_real_arguments
variable [Cert.Pre_real_arguments.Facts]
variable {x : FVec Ideal S4096x2048x4 .f32} {W1 : FVec Ideal S4096x2048 .f32} {b1 : FVec Ideal S4096 .f32} {W2 : FVec Ideal S2048x4096 .f32}
  {b2 : FVec Ideal S2048 .f32} {W3 : FVec Ideal S64x2048 .f32} {b3 : FVec Ideal S64 .f32}

/-- Where the precondition holds every element of every argument is real. -/
theorem reals (h : (fn (F := Ideal) x W1 b1 W2 b2 W3 b3).1 = (fun _ => 1#1) ∧ (fn (F := Ideal) x W1 b1 W2 b2 W3 b3).2.1 = (fun _ => 1#1)
      ∧ (fn (F := Ideal) x W1 b1 W2 b2 W3 b3).2.2.1 = (fun _ => 1#1) ∧ (fn (F := Ideal) x W1 b1 W2 b2 W3 b3).2.2.2.1 = (fun _ => 1#1)
      ∧ (fn (F := Ideal) x W1 b1 W2 b2 W3 b3).2.2.2.2.1 = (fun _ => 1#1) ∧ (fn (F := Ideal) x W1 b1 W2 b2 W3 b3).2.2.2.2.2.1 = (fun _ => 1#1)
      ∧ (fn (F := Ideal) x W1 b1 W2 b2 W3 b3).2.2.2.2.2.2 = (fun _ => 1#1)) :
    (∀ q, Reals.IsReal (x q)) ∧ (∀ q, Reals.IsReal (W1 q)) ∧ (∀ q, Reals.IsReal (b1 q)) ∧ (∀ q, Reals.IsReal (W2 q))
      ∧ (∀ q, Reals.IsReal (b2 q)) ∧ (∀ q, Reals.IsReal (W3 q)) ∧ ∀ q, Reals.IsReal (b3 q) := by
  obtain ⟨h0, h1, h2, h3, h4, h5, h6⟩ := h
  exact ⟨fun q => real_of_compare (congrFun h0 q), fun q => real_of_compare (congrFun h1 q), fun q => real_of_compare (congrFun h2 q),
    fun q => real_of_compare (congrFun h3 q), fun q => real_of_compare (congrFun h4 q), fun q => real_of_compare (congrFun h5 q),
    fun q => real_of_compare (congrFun h6 q)⟩
end

/-- The mask selects no element of the second result. -/
theorem not_second [Cert.On_all_weights.Facts] (x : FVec Ideal Cert.On_all_weights.S4096x2048x4 .f32) (W1 : FVec Ideal Cert.On_all_weights.S4096x2048 .f32)
    (b1 : FVec Ideal Cert.On_all_weights.S4096 .f32) (W2 : FVec Ideal Cert.On_all_weights.S2048x4096 .f32) (b2 : FVec Ideal Cert.On_all_weights.S2048 .f32)
    (W3 : FVec Ideal Cert.On_all_weights.S64x2048 .f32) (b3 : FVec Ideal Cert.On_all_weights.S64 .f32) (q : Cert.On_all_weights.S4096x8.Idx) :
    (Cert.On_all_weights.fn (F := Ideal) x W1 b1 W2 b2 W3 b3).2 q ≠ 1#1 := by
  show (0#1 : BitVec 1) ≠ 1#1
  decide

end Cert.Proof.Given

end
-- ==== Proof.Equal.lean ====
/-
  The two programs' results are the same arrays, from memories that agree on the arguments.
-/
module

public import proofs.«01_k».proof.Defs
public import proofs.«01_k».proof.Proof.Arrays
public import proofs.«01_k».proof.Proof.RefRun
public import proofs.«01_k».proof.Proof.Given

@[expose] public section

set_option maxRecDepth 16384

noncomputable section

namespace Cert.Proof.Equal

open Idealize.ShloMosaic Idealize.ShloMosaic.TcCoe Idealize.SL.Sem
open Cert.KernelIdeal.Arrays Cert.ReferenceIdeal.Rows

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on device `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable {m m'} {c : Dev Cert.KernelIdeal.nD}

/-- Row `i` of the reference's scores is the kernel's scores of row `i`. -/
theorem scores_agree (h : Agree m m' c) (i : Fin 4096) : (fun j => scoresAt m' c (ix2 i j)) = rowScores m c i := by
  obtain ⟨h0, h1, h2, h3, h4, h5, h6⟩ := h
  unfold scoresAt
  rw [h0, h1, h2, h3, h4, h5, h6]
  exact scores_row _ _ _ _ _ _ _ i

/-- The reference's weights are the kernel's. -/
theorem weights_agree (h : Agree m m' c) : softmax (largest (scoresAt m' c)).1 = weightsOf m c := by
  funext q
  obtain ⟨i, r, rfl⟩ : ∃ (i : Fin 4096) (r : Fin 8), q = ix2 i r := ⟨q 0, q 1, by funext a; match a with | ⟨0, _⟩ => rfl | ⟨1, _⟩ => rfl⟩
  refine (weight_apply (scoresAt m' c) i r).trans ?_
  rw [scores_agree h i]
  rfl

/-- The reference's positions are the kernel's. -/
theorem positions_agree (h : Agree m m' c) : (largest (scoresAt m' c)).2 = positionsOf m c := by
  funext q
  obtain ⟨i, r, rfl⟩ : ∃ (i : Fin 4096) (r : Fin 8), q = ix2 i r := ⟨q 0, q 1, by funext a; match a with | ⟨0, _⟩ => rfl | ⟨1, _⟩ => rfl⟩
  refine (largest_snd (scoresAt m' c) i r).trans ?_
  rw [scores_agree h i]
  rfl

/-- Where the precondition holds no score is the bottom value. -/
theorem scores_ne_bot [Cert.Pre_real_arguments.Facts] (h : Cert.Pre_KernelIdeal_real_arguments m) (c : Dev Cert.KernelIdeal.nD)
    (i : Fin 4096) (k : Fin 64) : rowScores m c i k ≠ ⊥ := by
  obtain ⟨hx, h1, c1, h2, c2, h3, c3⟩ := Given.reals (h c)
  exact (Reals.scores (fun k => Reals.mean fun l => hx (ix3 i k l)) (fun j k => h1 (ix2 j k)) (fun j => c1 (ix1 j)) (fun j k => h2 (ix2 j k))
    (fun j => c2 (ix1 j)) (fun j k => h3 (ix2 j k)) (fun j => c3 (ix1 j)) k).ne_bot

end Cert.Proof.Equal

end
-- ==== Proof.lean ====
/-
  The proof of the certificate's claims.

  The kernel's and the reference's frames are read off their generated runs. The two value claims set the two result
  arrays of `Proof/Arrays.lean` beside the reference's of `Proof/RefRun.lean`, equal by `Proof/Equal.lean`: the weights from
  any arguments, the positions from real ones.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equal

@[expose] public section

noncomputable section

namespace Cert.Proof

open Idealize.ShloMosaic Idealize.ShloMosaic.TcCoe Idealize.SL.Sem

/-- The reference's idealization runs, leaves its arguments as they were and ends with every counter at zero: it has none. -/
theorem reference_frame : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Rows.run m ρ)

/-- From real arguments both programs end with the same weights and the same positions. -/
theorem results_equal [Cert.Pre_real_arguments.Facts] : Cert.algebraic_KernelIdeal_ReferenceIdeal_pre_real_arguments := by
  intro m ρ m' ρ' hpre hagree
  refine ⟨fun c => Cert.KernelIdeal.Arrays.weightsOf m c, fun c => Cert.KernelIdeal.Arrays.positionsOf m c, ?_, ?_⟩
  · exact (θ_run Cert.KernelIdeal.defs _ _).mono
      (fun _ h c => ⟨(h c).1.trans (Cert.KernelIdeal.Arrays.weights_eq m c),
        (h c).2.1.trans (Cert.KernelIdeal.Arrays.positions_eq m c (Equal.scores_ne_bot hpre c)), (h c).2.2⟩)
      (Cert.KernelIdeal.Value.run_blocks (F := Ideal) m ρ)
  · exact (θ_run Cert.ReferenceIdeal.defs _ _).mono
      (fun _ h c => ⟨(h c).1.trans (Equal.weights_agree (hagree c)), (h c).2.1.trans (Equal.positions_agree (hagree c)), (h c).2.2⟩)
      (Cert.ReferenceIdeal.Rows.run m' ρ')

/-- From any arguments both programs end with the same weights. -/
theorem weights_equal [Cert.On_all_weights.Facts] : Cert.algebraic_KernelIdeal_ReferenceIdeal_on_all_weights := by
  intro m ρ m' ρ' _ hagree
  refine ⟨fun c => Cert.KernelIdeal.Arrays.weightsOf m c, fun c => Cert.KernelIdeal.Arrays.positionsOf m c, ?_, ?_⟩
  · exact (θ_run Cert.KernelIdeal.defs _ _).mono
      (fun _ h c => ⟨fun q _ => congrFun ((h c).1.trans (Cert.KernelIdeal.Arrays.weights_eq m c)) q,
        fun q hq => absurd hq (Given.not_second _ _ _ _ _ _ _ q), (h c).2.2⟩)
      (Cert.KernelIdeal.Value.run_blocks (F := Ideal) m ρ)
  · exact (θ_run Cert.ReferenceIdeal.defs _ _).mono
      (fun _ h c => ⟨fun q _ => congrFun ((h c).1.trans (Equal.weights_agree (hagree c))) q,
        fun q hq => absurd hq (Given.not_second _ _ _ _ _ _ _ q), (h c).2.2⟩)
      (Cert.ReferenceIdeal.Rows.run m' ρ')

/-- Everything the certificate claims. -/
theorem claim : Cert.Claim :=
  haveI := Cert.Pre_real_arguments.facts
  haveI := Cert.On_all_weights.facts
  ⟨Cert.Kernel.Gen.facts, Cert.KernelIdeal.Gen.facts, Cert.ReferenceIdeal.Gen.facts, Cert.Pre_real_arguments.facts, Cert.On_all_weights.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, results_equal, weights_equal⟩

end Cert.Proof

end
